-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_scale" .f32 0x3403126F#32 ((1 / 8192000 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S4096x512 : Shape := ⟨2, ![4096, 512]⟩
abbrev S4096x1000 : Shape := ⟨2, ![4096, 1000]⟩
abbrev S1000x512 : Shape := ⟨2, ![1000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S4096x512 .f32) (main_arg1 : FVec F S4096x1000 .f32) (main_arg2 : FVec F S1000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : FVec F S1000x512 .f32 := Host.absf main_arg2
  let main_cst_2 : FVec F S_ .f32 := constant S_ .f32 0x7F800000#32
  let main_v9 : FVec F S1000x512 .f32 := broadcastInDim S1000x512 ![] bcast_S_S1000x512 main_cst_2
  let main_v10 : IVec S1000x512 1 := cmpf .olt main_v8 main_v9
  let main_c_3 : IVec S_ 1 := constantI S_ 1 1#1
  let main_v11 : IVec S_ 1 := (fun x v => Host.reduce IntOp.andi x v reducesTo_S1000x512_S_d0_1 h_S_) main_v10 main_c_3
  let main_v12 : IVec S_ 1 := andi main_v3 main_v7
  let main_v13 : IVec S_ 1 := andi main_v12 main_v11
  main_v13
-- ==== Kernel.lean ====
abbrev S4096x512 : Shape := ⟨2, ![4096, 512]⟩
abbrev S4096x1000 : Shape := ⟨2, ![4096, 1000]⟩
abbrev S1000x512 : Shape := ⟨2, ![1000, 512]⟩
abbrev S1000x4096 : Shape := ⟨2, ![1000, 4096]⟩
abbrev S1x1 : Shape := ⟨2, ![1, 1]⟩
abbrev S1024x512 : Shape := ⟨2, ![1024, 512]⟩
abbrev S512x1024 : Shape := ⟨2, ![512, 1024]⟩
abbrev S512x512 : Shape := ⟨2, ![512, 512]⟩
abbrev S512x514 : Shape := ⟨2, ![512, 514]⟩
abbrev S1024 : Shape := ⟨1, ![1024]⟩
abbrev S1024x1 : Shape := ⟨2, ![1024, 1]⟩
abbrev S1024x514 : Shape := ⟨2, ![1024, 514]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x512x512 : Shape := ⟨3, ![1, 512, 512]⟩
abbrev S1x1x1 : Shape := ⟨3, ![1, 1, 1]⟩
abbrev S_ : Shape := ⟨0, ![]⟩

abbrev nBuf : Space → Nat
  | .hbm => 6
  | .vmem => 10
  | .smem => 1
  | _ => 0

abbrev bufTy : (tb : Table) → Fin (tcTables nBuf tb) → BufTy
  | .hbm, ⟨0, _⟩ => ⟨S4096x512, .f32⟩
  | .hbm, ⟨1, _⟩ => ⟨S4096x1000, .f32⟩
  | .hbm, ⟨2, _⟩ => ⟨S1000x512, .f32⟩
  | .hbm, ⟨3, _⟩ => ⟨S1000x4096, .f32⟩
  | .hbm, ⟨4, _⟩ => ⟨S1x1, .f32⟩
  | .hbm, ⟨5, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x514, .bf16⟩
  | .local _ .vmem, ⟨9, _⟩ => ⟨S512x514, .bf16⟩
  | .local _ .smem, ⟨0, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond5 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_scale" => some ((1 / 8192000 : ℝ) : EReal)
  | _ => none
-- ==== ReferenceIdeal.lean ====
abbrev S4096x512 : Shape := ⟨2, ![4096, 512]⟩
abbrev S4096x1000 : Shape := ⟨2, ![4096, 1000]⟩
abbrev S1000x512 : Shape := ⟨2, ![1000, 512]⟩
abbrev S_ : Shape := ⟨0, ![]⟩
abbrev S4096 : Shape := ⟨1, ![4096]⟩
abbrev S4096x1 : Shape := ⟨2, ![4096, 1]⟩
abbrev S1000 : Shape := ⟨1, ![1000]⟩
abbrev S1x1000 : Shape := ⟨2, ![1, 1000]⟩
abbrev S512x1000 : Shape := ⟨2, ![512, 1000]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1000, .f32⟩
  | .hbm, ⟨2, _⟩ => ⟨S1000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S512x1000, .f32⟩
  | .hbm, ⟨12, _⟩ => ⟨S4096x1000, .f32⟩
  | .hbm, ⟨13, _⟩ => ⟨S4096x1000, .f32⟩
  | .hbm, ⟨14, _⟩ => ⟨S4096x1000, .f32⟩
  | .hbm, ⟨15, _⟩ => ⟨S4096x1000, .f32⟩
  | .hbm, ⟨16, _⟩ => ⟨S_, .f32⟩
  | .hbm, ⟨17, _⟩ => ⟨S4096x1000, .f32⟩
  | .hbm, ⟨18, _⟩ => ⟨S4096x1000, .f32⟩
  | .hbm, ⟨19, _⟩ => ⟨S4096x1000, .f32⟩
  | .hbm, ⟨20, _⟩ => ⟨S4096x1000, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Kernel.Frame.lean ====
/-
  The frame of `Kernel`, the program as printed, at any float values: every fair execution of @main terminates without a
  fault, the three argument arrays end holding what they held, and every semaphore counter ends at zero.

  Nothing here names what the kernel computes. Every window is FORGOTTEN: its staging buffer is handed to the body at some
  contents and taken back at some contents (Lib/Pipeline/Dat.lean `Dat.toRForget`). The two scratch accumulators are the
  library's invariant `Pipeline.ΦA`, owned at some contents. The arguments are either the arrays of input windows, which no
  window writes, or untouched by the region.
-/
module

public import proofs.«01_k».proof.Proof.Gen.Kernel.Skeleton
public import proofs.«01_k».proof.Proof.Gen.Kernel.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

/-- A buffer owned whole at some contents. -/
abbrev any (c : Dev nD) {sp : Space} {s : Shape} {e : EltTy} (M : Memref sig .tc sp s e) : sProp 𝕄 :=
  iprop(∃ d, owns (c : Thread nD τ) M fullShare d)

/-- The body runs at any point on any whole staging buffers and accumulators, and leaves each at some contents. -/
theorem kernelRun (c : Dev nD) (i : grid0.Coords)
    (arg1 : Memref sig .tc .vmem S1024x512 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x512 .f32) (harg4 : arg4.IsWhole)
    (arg5 : Memref sig .tc .vmem S512x512 .f32) (harg5 : arg5.IsWhole) (arg6 : Memref sig .tc .smem S1x1 .f32) (harg6 : arg6.IsWhole)
    (arg7 : Memref sig .tc .vmem S512x514 .bf16) (harg7 : arg7.IsWhole) (arg8 : Memref sig .tc .vmem S512x514 .bf16) (harg8 : arg8.IsWhole)
    (K : PUnit → sProp 𝕄) :
    iprop(any c arg1 ∗ any c arg2 ∗ any c arg3 ∗ any c arg4 ∗ any c arg5 ∗ any c arg6 ∗ any c arg7 ∗ any c arg8
        ∗ (iprop(any c arg1 ∗ any c arg2 ∗ any c arg3 ∗ any c arg4 ∗ any c arg5 ∗ any c arg6 ∗ any c arg7 ∗ any c arg8) -∗ K ⟨⟩))
      ⊢ wp frame (wpE (defs₀ (F := F)) Variants.none c none) Set.univ
          (cc0__center_loss_kernel i arg1 harg1 arg2 harg2 arg3 harg3 arg4 harg4 arg5 harg5 arg6 harg6 arg7 harg7 arg8 harg8) K := by
  simp only [cc0__center_loss_kernel_eq_skeleton]; unfold cc0__center_loss_kernel_skel
  unfold any owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec
  sl_step
  iapply Hk
  isplitl [H1]; · iexists _, _; isplitr; swap; (· iexact H1); ipureintro; rfl
  isplitl [H2]; · iexists _, _; isplitr; swap; (· iexact H2); ipureintro; rfl
  isplitl [H3]; · iexists _, _; isplitr; swap; (· iexact H3); ipureintro; rfl
  isplitl [H4]; · iexists _, _; isplitr; swap; (· iexact H4); ipureintro; rfl
  isplitl [H5]; · iexists _, _; isplitr; swap; (· iexact H5); ipureintro; rfl
  isplitl [H6]; · iexists _, _; isplitr; swap; (· iexact H6); ipureintro; rfl
  isplitl [H7]; · iexists _, _; isplitr; swap; (· iexact H7); ipureintro; rfl
  iexists _, _; isplitr; swap; (· iexact H8); ipureintro; rfl

/-! ## The proof data and the body obligation -/

/-- Every window forgotten. -/
def forgets : Fin 6 → Bool := fun _ => true

/-- The proof data: the arrays as the region finds them; what the body leaves unnamed; the invariant `Pipeline.ΦA`; the
    shares of the arrays that two input windows read; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The arrays the launch starts from are the host's. -/
theorem A_eq (c : Dev nD) (w : Fin cfg0.W) : (dats m 0 c).A w = V m c (Pipeline.arrRef spec0 w) := by dsimp only [dats]

/-- The invariant, conjunct by conjunct: the two accumulators and the generator register. -/
theorem ΦA_eq (c : Dev nD) :
    (Pipeline.ΦA spec0 c : sProp 𝕄)
      = iprop(iprop(any c (Memref.whole cc0_scratch0) ∗ any c (Memref.whole cc0_scratch1)) ∗ (∃ r, prngReg c r)) := by
  unfold Pipeline.ΦA; rw [scopedRest0_eq]; unfold any; simp only [owns_whole]; try rfl

/-- What the body is called with at a point, and what it returns: the same. -/
def bodyInv (c : Dev nD) (t : Fin cfg0.N) : sProp 𝕄 :=
  iprop((dats m 0 c).Φ t.castSucc ∗ (dats m 0 c).owesAt () t.castSucc
    ∗ any c (st0_0 t) ∗ any c (st0_1 t) ∗ any c (st0_2 t) ∗ any c (st0_3 t) ∗ any c (st0_4 t) ∗ any c (st0_5 t))

/-- The body at a point keeps all it is handed, at some contents. -/
theorem sound_body (c : Dev nD) (t : Fin cfg0.N) :
    bodyInv m c t ⊢ wp frame (wpE (defs₀ (F := F)) Variants.none c none) Set.univ (bodyAt0 t) (fun _ => bodyInv m c t) := by
  unfold bodyInv bodyAt0
  rw [show (dats m 0 c).Φ t.castSucc = Pipeline.ΦA spec0 c from rfl, ΦA_eq]
  iintro ⟨⟨⟨H7, H8⟩, Hg⟩, HO, H1, H2, H3, H4, H5, H6⟩
  iapply (kernelRun c (grid0.coords t) _ _ _ _ _ _ _ _ _ _ _ _ _ _ _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  isplitl [H7 H8 Hg]
  · isplitl [H7 H8]
    · isplitl [H7]; · iexact H7
      iexact H8
    iexact Hg
  isplitl [HO]; · iexact HO
  isplitl [H1]; · iexact H1
  isplitl [H2]; · iexact H2
  isplitl [H3]; · iexact H3
  isplitl [H4]; · iexact H4
  isplitl [H5]; · iexact H5
  iexact H6

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

/-- The line after the region writes the result alone. -/
theorem sfx_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  rw [Finset.mem_singleton]
  by_contra hne
  exact StableHlo.devRef_ne_of_ne hne hb

set_option backward.isDefEq.respectTransparency.types false in
/-- The frame at any float values: the arguments end as launched and every counter at zero. -/
theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget_shared (Q' := _) cfgs (dats m) (0 : Fin 1) launch₀0 defs₀ Variants.none forgets {main_v2} m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)
    (hQ' := fun r h => ⟨fun c =>
      ⟨(h.1.arr_in c 0 rfl).trans (V_main_arg0 m c),
        ((h.1 c).2 main_arg1 (by decide)).trans (V_main_arg1 m c),
        (h.1.arr_in c 4 rfl).trans (V_main_arg2 m c)⟩, h.2⟩)

end Cert.Kernel.Hand

end
-- ==== Proof.KernelIdeal.Body.lean ====
/-
  The kernel's body as one run per kind of grid point: the first point stores its two products into the accumulators, a later
  point adds its products to them, and the last point also reads the blocks of centers and stores the scalar result.
-/
module

public import proofs.«01_k».proof.Proof.Gen.KernelIdeal.Skeleton
public import proofs.«01_k».proof.Proof.Gen.KernelIdeal.Frame
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The word of the branch that starts the accumulators: the grid coordinate is zero. -/
abbrev isZero (i : grid0.Coords) : BitVec 1 := Scalar.cmpi .ne (Scalar.extui (Scalar.cmpi .eq (BitVec.ofNat 32 (i 0).val) 0#32) : BitVec 32) 0#32
/-- The word of the branch that adds to them: the grid coordinate is positive. -/
abbrev isPos (i : grid0.Coords) : BitVec 1 := Scalar.cmpi .ne (Scalar.extui (Scalar.cmpi .sgt (BitVec.ofNat 32 (i 0).val) 0#32) : BitVec 32) 0#32

/-- A whole store leaves its payload, whatever was there. -/
theorem read_store {sp : Space} {s : Shape} {e : EltTy} (M : Memref sig .tc sp s e) {off : Fin s.rank → Nat} (h : off = fun _ => 0)
    (inb : ∀ a, off a + s.size a ≤ s.size a) (f : M.view.ty.Contents (Elt F)) (w : s.Idx → Elt F e) :
    M.view.read (Elt F) (M.view.writes (Elt F) f [⟨Rect.unit off s.size inb, w⟩]) = w := by
  rw [View.read_writes_eq_canon _ _ _ fun y => ⟨_, List.mem_singleton_self _, View.mem_set_unit_zero h inb y⟩, View.canon_unit_zero h]

/-- A whole load reads the contents. -/
theorem read_load {sp : Space} {s : Shape} {e : EltTy} (M : Memref sig .tc sp s e) {off : Fin s.rank → Nat} (h : off = fun _ => 0)
    (inb : ∀ a, off a + s.size a ≤ s.size a) (f : M.view.ty.Contents (Elt F)) :
    M.view.readAt (Elt F) (Rect.unit off s.size inb).toLoadRect f = M.view.read (Elt F) f := by
  rw [View.readAt_eq_ld, View.ld_unit_zero h]

/-- The offsets of every access. -/
theorem zero2 : (![0, 0] : Fin 2 → Nat) = fun _ => 0 := funext fun a => by fin_cases a <;> rfl

variable (c : Dev nD)

/-- A buffer owned whole at contents `X`. -/
abbrev at_ {sp : Space} {s : Shape} {e : EltTy} (M : Memref sig .tc sp s e) (X : s.Idx → Elt F e) : sProp 𝕄 :=
  owns (c : Thread nD τ) M fullShare X

/-- At the first point the body stores its two products into the accumulators, whatever those held, and hands its input
    blocks back as they were. -/
theorem run_first (i : grid0.Coords) (h0 : isZero i = 1#1) (hp : ¬ isPos i = 1#1) (hl : ¬ k0_cond5 i = 1#1)
    (arg1 : Memref sig .tc .vmem S1024x512 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x512 .f32) (harg4 : arg4.IsWhole)
    (arg5 : Memref sig .tc .vmem S512x512 .f32) (harg5 : arg5.IsWhole) (arg6 : Memref sig .tc .smem S1x1 .f32) (harg6 : arg6.IsWhole)
    (arg7 : Memref sig .tc .vmem S512x514 .bf16) (harg7 : arg7.IsWhole) (arg8 : Memref sig .tc .vmem S512x514 .bf16) (harg8 : arg8.IsWhole)
    (X1 : Vec F S1024x512 .f32) (X2 X3 : Vec F S512x1024 .f32) (X7 X8 : Vec F S512x514 .bf16) (K : PUnit → sProp 𝕄) :
    iprop(at_ c arg1 X1 ∗ at_ c arg2 X2 ∗ at_ c arg3 X3 ∗ at_ c arg7 X7 ∗ at_ c arg8 X8
        ∗ (iprop(at_ c arg1 X1 ∗ at_ c arg2 X2 ∗ at_ c arg3 X3 ∗ at_ c arg7 (k0_pay3 X1 X2) ∗ at_ c arg8 (k0_pay6 X1 X3)) -∗ K ⟨⟩))
      ⊢ wp frame (wpE (defs₀ (F := F)) Variants.none c none) Set.univ
          (cc0__center_loss_kernel i arg1 harg1 arg2 harg2 arg3 harg3 arg4 harg4 arg5 harg5 arg6 harg6 arg7 harg7 arg8 harg8) K := by
  simp only [cc0__center_loss_kernel_eq_skeleton]; unfold cc0__center_loss_kernel_skel
  unfold at_ owns
  iintro ⟨⟨%f1, %e1, H1⟩, ⟨%f2, %e2, H2⟩, ⟨%f3, %e3, H3⟩, ⟨%f7, %e7, H7⟩, ⟨%f8, %e8, H8⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H7]
  · iexists _; isplitr; swap; (· iexact H7); ipureintro
    rw [read_store _ zero2, read_load _ zero2, read_load _ zero2, e1, e2]
  iexists _; isplitr; swap; (· iexact H8); ipureintro
  rw [read_store _ zero2, read_load _ zero2, read_load _ zero2, e1, e3]

/-- At a later point that is not the last, the body adds its two products to the accumulators and hands its input blocks back
    as they were. -/
theorem run_middle (i : grid0.Coords) (h0 : ¬ isZero i = 1#1) (hp : isPos i = 1#1) (hl : ¬ k0_cond5 i = 1#1)
    (arg1 : Memref sig .tc .vmem S1024x512 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x512 .f32) (harg4 : arg4.IsWhole)
    (arg5 : Memref sig .tc .vmem S512x512 .f32) (harg5 : arg5.IsWhole) (arg6 : Memref sig .tc .smem S1x1 .f32) (harg6 : arg6.IsWhole)
    (arg7 : Memref sig .tc .vmem S512x514 .bf16) (harg7 : arg7.IsWhole) (arg8 : Memref sig .tc .vmem S512x514 .bf16) (harg8 : arg8.IsWhole)
    (X1 : Vec F S1024x512 .f32) (X2 X3 : Vec F S512x1024 .f32) (X7 X8 : Vec F S512x514 .bf16) (K : PUnit → sProp 𝕄) :
    iprop(at_ c arg1 X1 ∗ at_ c arg2 X2 ∗ at_ c arg3 X3 ∗ at_ c arg7 X7 ∗ at_ c arg8 X8
        ∗ (iprop(at_ c arg1 X1 ∗ at_ c arg2 X2 ∗ at_ c arg3 X3 ∗ at_ c arg7 (k0_pay4 X1 X2 X7) ∗ at_ c arg8 (k0_pay7 X1 X3 X8)) -∗ K ⟨⟩))
      ⊢ wp frame (wpE (defs₀ (F := F)) Variants.none c none) Set.univ
          (cc0__center_loss_kernel i arg1 harg1 arg2 harg2 arg3 harg3 arg4 harg4 arg5 harg5 arg6 harg6 arg7 harg7 arg8 harg8) K := by
  simp only [cc0__center_loss_kernel_eq_skeleton]; unfold cc0__center_loss_kernel_skel
  unfold at_ owns
  iintro ⟨⟨%f1, %e1, H1⟩, ⟨%f2, %e2, H2⟩, ⟨%f3, %e3, H3⟩, ⟨%f7, %e7, H7⟩, ⟨%f8, %e8, H8⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H7]
  · iexists _; isplitr; swap; (· iexact H7); ipureintro
    rw [read_store _ zero2, read_load _ zero2, read_load _ zero2, read_load _ zero2, e1, e2, e7]
  iexists _; isplitr; swap; (· iexact H8); ipureintro
  rw [read_store _ zero2, read_load _ zero2, read_load _ zero2, read_load _ zero2, e1, e3, e8]

/-- What the last point stores, from the two centre blocks and the two accumulators. -/
def outVal (C1 C2 : Vec F S512x512 .f32) (A1 A2 : Vec F S512x514 .bf16) : F .f32 :=
  k0_pay8 (k0_pay9 C1 A1) (k0_pay11 A2) (k0_pay12 C2) (k0_pay13 C2)

/-- At the last point the body adds its two products to the accumulators and then stores `outVal` of the blocks of centers and
    the finished accumulators into the result's buffer. -/
theorem run_last (i : grid0.Coords) (h0 : ¬ isZero i = 1#1) (hp : isPos i = 1#1) (hl : k0_cond5 i = 1#1)
    (arg1 : Memref sig .tc .vmem S1024x512 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x512 .f32) (harg4 : arg4.IsWhole)
    (arg5 : Memref sig .tc .vmem S512x512 .f32) (harg5 : arg5.IsWhole) (arg6 : Memref sig .tc .smem S1x1 .f32) (harg6 : arg6.IsWhole)
    (arg7 : Memref sig .tc .vmem S512x514 .bf16) (harg7 : arg7.IsWhole) (arg8 : Memref sig .tc .vmem S512x514 .bf16) (harg8 : arg8.IsWhole)
    (X1 : Vec F S1024x512 .f32) (X2 X3 : Vec F S512x1024 .f32) (X4 X5 : Vec F S512x512 .f32) (X6 : Vec F S1x1 .f32)
    (X7 X8 : Vec F S512x514 .bf16) (K : PUnit → sProp 𝕄) :
    iprop(at_ c arg1 X1 ∗ at_ c arg2 X2 ∗ at_ c arg3 X3 ∗ at_ c arg4 X4 ∗ at_ c arg5 X5 ∗ at_ c arg6 X6 ∗ at_ c arg7 X7 ∗ at_ c arg8 X8
        ∗ (iprop(at_ c arg1 X1 ∗ at_ c arg2 X2 ∗ at_ c arg3 X3 ∗ at_ c arg4 X4 ∗ at_ c arg5 X5
            ∗ at_ c arg6 (fun _ => outVal X4 X5 (k0_pay4 X1 X2 X7) (k0_pay7 X1 X3 X8))
            ∗ at_ c arg7 (k0_pay4 X1 X2 X7) ∗ at_ c arg8 (k0_pay7 X1 X3 X8)) -∗ K ⟨⟩))
      ⊢ wp frame (wpE (defs₀ (F := F)) Variants.none c none) Set.univ
          (cc0__center_loss_kernel i arg1 harg1 arg2 harg2 arg3 harg3 arg4 harg4 arg5 harg5 arg6 harg6 arg7 harg7 arg8 harg8) K := by
  simp only [cc0__center_loss_kernel_eq_skeleton]; unfold cc0__center_loss_kernel_skel
  simp only [k0_part1_eq_skeleton]; unfold k0_part1_skel
  unfold at_ owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]
  · iexists _; isplitr; swap; (· iexact H6); ipureintro
    rw [read_store _ zero2]
    unfold outVal run_last.sl.v34 run_last.sl.v61 run_last.sl.H7_1 run_last.sl.H8_1
    rw [View.readCov_unit_zero _ zero2, View.readCov_unit_zero _ zero2, read_load _ zero2, read_load _ zero2, read_load _ zero2,
      read_load _ zero2, read_load _ zero2, read_load _ zero2, read_load _ zero2, e1, e2, e3, e4, e5, e7, e8]
    rfl
  isplitl [H7]
  · iexists _; isplitr; swap; (· iexact H7); ipureintro
    unfold run_last.sl.H7_1
    rw [read_store _ zero2, read_load _ zero2, read_load _ zero2, read_load _ zero2, e1, e2, e7]
  iexists _; isplitr; swap; (· iexact H8); ipureintro
  unfold run_last.sl.H8_1
  rw [read_store _ zero2, read_load _ zero2, read_load _ zero2, read_load _ zero2, e1, e3, e8]

end Cert.KernelIdeal.Hand

end
-- ==== Proof.Consts.lean ====
/-
  The values of the float constants that the two programs share or divide by.
-/
module

public import Idealize.ShloMosaic.PureOps.Ideal

@[expose] public section

noncomputable section

namespace Cert.Consts

open Idealize.ShloMosaic

/-- The constant two. -/
theorem two_bits : Ideal.ofBits .f32 0x40000000#32 = ((2 : ℝ) : EReal) := by
  simp [Ideal.ofBits, Ideal.ieee, -EReal.coe_mul]; norm_num

/-- The constant counting the rows of a batch. -/
theorem rows_bits : Ideal.ofBits .f32 0x45800000#32 = ((4096 : ℝ) : EReal) := by
  simp [Ideal.ofBits, Ideal.ieee, -EReal.coe_mul]; norm_num

/-- The constant counting the classes. -/
theorem classes_bits : Ideal.ofBits .f32 0x447A0000#32 = ((1000 : ℝ) : EReal) := by
  simp [Ideal.ofBits, Ideal.ieee, -EReal.coe_mul]; norm_num

end Cert.Consts
-- ==== Proof.KernelIdeal.Block.lean ====
/-
  What one block computes, at the ideal values: each payload of the kernel read at an index.

  Both halves of the kernel run the same steps. The right factor (`gcol`) is the feature block with two more columns, its
  rows' sums of squares and ones; a block's product with it (`prodAt`) is what one grid point adds to an accumulator; and
  `tailOf` is the scalar the last point takes out of an accumulator and a block of centers. The second half keeps the rows
  below 488 alone, so that its scalar does not depend on the rows past the arrays' end.
-/
module

public import proofs.«01_k».proof.Proof.KernelIdeal.Body
public import proofs.«01_k».proof.Proof.Consts
public import Idealize.ShloMosaic.Lib.Pointwise
public import Idealize.ShloMosaic.Lib.WordCmp

@[expose] public section

noncomputable section

namespace Cert.KernelIdeal.Hand

open Cert.KernelIdeal Cert.KernelIdeal.Gen
open Idealize.ShloMosaic

/-! ## The product of one grid point -/

/-- The right factor: the feature row, then its sum of squares, then one. -/
def gcol (X : Vec Ideal S1024x512 .f32) (i : Fin 1024) (k : Fin 514) : EReal :=
  if h : k.val < 512 then X (ix2 i ⟨k.val, h⟩)
  else if k.val - 512 < 1 then ∑ d : Fin 512, X (ix2 i d) * X (ix2 i d) else 1

/-- The labels' block times the right factor, at an index. -/
def prodAt (X : Vec Ideal S1024x512 .f32) (L : Vec Ideal S512x1024 .f32) (j : Fin 512) (k : Fin 514) : EReal :=
  ∑ i : Fin 1024, L (ix2 j i) * gcol X i k

/-- The widened feature block at an index. -/
theorem pay1_apply (X : Vec Ideal S1024x512 .f32) (i : Fin 1024) (k : Fin 514) :
    k0_pay1 X (ix2 i k) = gcol X i k := by
  pointwise [k0_pay1]
  unfold gcol
  split <;> [rfl; (split <;> rfl)]

/-- A block's product of labels and widened features at an index. -/
theorem pay2_apply (X : Vec Ideal S1024x512 .f32) (L : Vec Ideal S512x1024 .f32) (j : Fin 512) (k : Fin 514) :
    k0_pay2 X L (ix2 j k) = prodAt X L j k := by
  pointwise [k0_pay2]
  simp only [pay1_apply, prodAt]

/-- The second half's product is the first half's on its own block. -/
theorem pay5_eq (X : Vec Ideal S1024x512 .f32) (L : Vec Ideal S512x1024 .f32) : k0_pay5 X L = k0_pay2 X L := rfl

/-- What the first point stores into the first accumulator, at an index. -/
theorem pay3_apply (X : Vec Ideal S1024x512 .f32) (L : Vec Ideal S512x1024 .f32) (j : Fin 512) (k : Fin 514) :
    k0_pay3 X L (ix2 j k) = prodAt X L j k := by
  pointwise [k0_pay3]
  exact pay2_apply X L j k

/-- What a later point stores into the first accumulator, at an index: what it held plus the product. -/
theorem pay4_apply (X : Vec Ideal S1024x512 .f32) (L : Vec Ideal S512x1024 .f32) (A : Vec Ideal S512x514 .bf16) (j : Fin 512) (k : Fin 514) :
    k0_pay4 X L A (ix2 j k) = A (ix2 j k) + prodAt X L j k := by
  pointwise [k0_pay4]
  rw [pay2_apply]

/-- The second half stores the same function of its own blocks at the first point. -/
theorem pay6_eq (X : Vec Ideal S1024x512 .f32) (L : Vec Ideal S512x1024 .f32) : k0_pay6 X L = k0_pay3 X L := rfl

/-- And at a later point. -/
theorem pay7_eq (X : Vec Ideal S1024x512 .f32) (L : Vec Ideal S512x1024 .f32) (A : Vec Ideal S512x514 .bf16) :
    k0_pay7 X L A = k0_pay4 X L A := rfl

/-! ## The last point's scalar -/

/-- The scalar of one half: the sum of the accumulator's column 512, plus its column 513 weighted by the centers' sums of
    squares, minus twice the sum of the products of the centers with its first 512 columns. -/
def tailOf (c2 : Fin 512 → EReal) (C : Fin 512 → Fin 512 → EReal) (A : Fin 512 → Fin 514 → EReal) : EReal :=
  ((∑ j : Fin 512, A j 512) + ∑ j : Fin 512, c2 j * A j 513)
    - ((2 : ℝ) : EReal) * ∑ j : Fin 512, ∑ d : Fin 512, C j d * A j ⟨d.val, by omega⟩

/-- The first half's scalar. -/
theorem pay9_eq (C : Vec Ideal S512x512 .f32) (A : Vec Ideal S512x514 .bf16) :
    k0_pay9 C A = tailOf (fun j => ∑ d : Fin 512, C (ix2 j d) * C (ix2 j d)) (fun j d => C (ix2 j d)) (fun j k => A (ix2 j k)) := by
  pointwise [k0_pay9]
  rw [Cert.Consts.two_bits]; rfl

/-- The stored scalar: the first half's plus the second half's, scaled. -/
theorem pay8_eq (s : EReal) (A : FVec Ideal S512x514 .f32) (C : Vec Ideal S512x512 .f32) (c2 : FVec Ideal S512 .f32) :
    k0_pay8 s A C c2 = (s + tailOf (fun j => c2 (ix1 j)) (fun j d => C (ix2 j d)) (fun j k => A (ix2 j k))) * ((1 / 8192000 : ℝ) : EReal) := by
  pointwise [k0_pay8]
  rw [Cert.Consts.two_bits, show (Named.named κ "inv_scale" 0x3403126F#32 : Ideal .f32) = ((1 / 8192000 : ℝ) : EReal) from
    IdealRules.named_const.ideal_named_scalar _ _ _ _ rfl]
  rfl

/-! ## The second half's mask -/

/-- A value kept on the rows below 488. -/
def keep (j : Fin 512) (x : EReal) : EReal := if j.val < 488 then x else 0

/-- The kernel's mask, as a choice. -/
theorem select_keep (j : Fin 512) (x : EReal) :
    Scalar.select (IntOp.cmpi CmpIPredicate.slt (BitVec.ofNat 32 j.val) 488#32) x 0 = keep j x := by
  unfold keep
  split
  · next h =>
    rw [(WordCmp.cmpi_slt_ofNat_eq_one_iff (a := j.val) (b := 488) (by omega) (by omega)).mpr h]; rfl
  · next h =>
    rw [(WordCmp.cmpi_slt_ofNat_eq_zero_iff (a := j.val) (b := 488) (by omega) (by omega)).mpr (by omega)]; rfl

/-- The second accumulator with its rows past the last class replaced by zeros. -/
theorem pay11_apply (A : Vec Ideal S512x514 .bf16) (j : Fin 512) (k : Fin 514) :
    k0_pay11 A (ix2 j k) = keep j (A (ix2 j k)) := by
  pointwise [k0_pay11, k0_pay10]
  exact select_keep j _

/-- The second block of centers with its rows past the last class replaced by zeros. -/
theorem pay12_apply (C : Vec Ideal S512x512 .f32) (j : Fin 512) (d : Fin 512) :
    k0_pay12 C (ix2 j d) = keep j (C (ix2 j d)) := by
  pointwise [k0_pay12, k0_pay10]
  exact select_keep j _

/-- The sums of squares of the second block of centers. -/
theorem pay13_apply (C : Vec Ideal S512x512 .f32) (j : Fin 512) :
    k0_pay13 C (ix1 j) = ∑ d : Fin 512, keep j (C (ix2 j d)) * keep j (C (ix2 j d)) := by
  pointwise [k0_pay13]
  simp only [pay12_apply]

/-- The result the last point stores, from the two blocks of centers and the two accumulators. -/
theorem outVal_eq (C1 C2 : Vec Ideal S512x512 .f32) (A1 A2 : Vec Ideal S512x514 .bf16) :
    outVal C1 C2 A1 A2
      = (tailOf (fun j => ∑ d : Fin 512, C1 (ix2 j d) * C1 (ix2 j d)) (fun j d => C1 (ix2 j d)) (fun j k => A1 (ix2 j k))
          + tailOf (fun j => ∑ d : Fin 512, keep j (C2 (ix2 j d)) * keep j (C2 (ix2 j d))) (fun j d => keep j (C2 (ix2 j d)))
              (fun j k => keep j (A2 (ix2 j k)))) * ((1 / 8192000 : ℝ) : EReal) := by
  unfold outVal
  rw [pay8_eq, pay9_eq]
  simp only [pay11_apply, pay12_apply, pay13_apply]

/-! ## Rows past the arrays' end -/

/-- Two matrices of 512 rows agree on the rows below 488. -/
def Agree {n : ℕ} (A B : (⟨2, ![512, n]⟩ : Shape).Idx → EReal) : Prop :=
  ∀ (j : Fin 512) (k : Fin n), j.val < 488 → A (ix2 j k) = B (ix2 j k)

/-- Blocks that agree on the rows below 488 are equal once the other rows are zeros. -/
theorem Agree.keep_eq {n : ℕ} {A B : (⟨2, ![512, n]⟩ : Shape).Idx → EReal} (h : Agree A B) (j : Fin 512) (k : Fin n) :
    keep j (A (ix2 j k)) = keep j (B (ix2 j k)) := by
  unfold keep
  split
  · next hj => exact h j k hj
  · rfl

/-- A row of the product reads that row of the labels' block alone. -/
theorem Agree.prodAt_eq {L L' : Vec Ideal S512x1024 .f32} (h : Agree L L') (X : Vec Ideal S1024x512 .f32) (j : Fin 512) (k : Fin 514)
    (hj : j.val < 488) : prodAt X L j k = prodAt X L' j k := by
  unfold prodAt
  exact Finset.sum_congr rfl fun i _ => by rw [h j i hj]

/-- What the second accumulator is started at agrees where the labels do. -/
theorem Agree.pay6 {L L' : Vec Ideal S512x1024 .f32} (h : Agree L L') (X : Vec Ideal S1024x512 .f32) :
    Agree (k0_pay6 X L) (k0_pay6 X L') := fun j k hj => by
  rw [pay6_eq, pay6_eq, pay3_apply, pay3_apply, h.prodAt_eq X j k hj]

/-- What the second accumulator is stepped to agrees where the labels and it do. -/
theorem Agree.pay7 {L L' : Vec Ideal S512x1024 .f32} (h : Agree L L') {A A' : Vec Ideal S512x514 .bf16} (hA : Agree A A')
    (X : Vec Ideal S1024x512 .f32) : Agree (k0_pay7 X L A) (k0_pay7 X L' A') := fun j k hj => by
  rw [pay7_eq, pay7_eq, pay4_apply, pay4_apply, h.prodAt_eq X j k hj, hA j k hj]

/-- The result does not depend on the second half's rows from 488 on. -/
theorem outVal_congr (C1 : Vec Ideal S512x512 .f32) (A1 : Vec Ideal S512x514 .bf16) {C2 C2' : Vec Ideal S512x512 .f32}
    {A2 A2' : Vec Ideal S512x514 .bf16} (hC : Agree C2 C2') (hA : Agree A2 A2') : outVal C1 C2 A1 A2 = outVal C1 C2' A1 A2' := by
  simp only [outVal_eq, hC.keep_eq, hA.keep_eq]

end Cert.KernelIdeal.Hand
-- ==== Proof.KernelIdeal.Data.lean ====
/-
  What the buffers hold, point by point: the blocks the windows bring, the two accumulators after each grid point, and the
  proof data of the pipeline. The second block of labels and the second block of centers overhang their arrays: their
  buffers are known on the rows inside the array alone, and so is the second accumulator.
-/
module

public import proofs.«01_k».proof.Proof.KernelIdeal.Block

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄" => MT nD τ sig Unit (Elt Ideal) ℕ (UR sig nD τ) ℕ

variable (m : (ℓ : Loc nD τ sig) → Buf (Elt Ideal) ℓ)

/-! ## The blocks -/

/-- The feature block of a point. -/
abbrev featBlk (c : Dev nD) (t : Fin cfg0.N) : Vec Ideal S1024x512 .f32 := iblk m c 0 t
/-- The first labels' block of a point. -/
abbrev labBlk1 (c : Dev nD) (t : Fin cfg0.N) : Vec Ideal S512x1024 .f32 := X0_1 m c t
/-- The second labels' block over some contents of its buffer. -/
abbrev labFill (c : Dev nD) (t : Fin cfg0.N) (d : Vec Ideal S512x1024 .f32) : Vec Ideal S512x1024 .f32 :=
  (cfg0.win 2).fill (cfg0.grid.coords t) d (iblk m c 2 t)
/-- The second labels' block over zeros. -/
abbrev labBlk2 (c : Dev nD) (t : Fin cfg0.N) : Vec Ideal S512x1024 .f32 := labFill m c t fun _ => (0 : EReal)
/-- The first block of centers. -/
abbrev cenBlk1 (c : Dev nD) (t : Fin cfg0.N) : Vec Ideal S512x512 .f32 := X0_3 m c t
/-- The second block of centers over some contents of its buffer. -/
abbrev cenFill (c : Dev nD) (t : Fin cfg0.N) (d : Vec Ideal S512x512 .f32) : Vec Ideal S512x512 .f32 :=
  (cfg0.win 4).fill (cfg0.grid.coords t) d (iblk m c 4 t)
/-- The second block of centers over zeros. -/
abbrev cenBlk2 (c : Dev nD) (t : Fin cfg0.N) : Vec Ideal S512x512 .f32 := cenFill m c t fun _ => (0 : EReal)

/-- The second labels' block has 488 rows inside the array. -/
theorem xsize0_2 : ∀ t : Fin cfg0.N, (cfg0.win 2).xsize (cfg0.grid.coords t) = ![488, 1024] := by decide +kernel
/-- The second block of centers has 488 rows inside the array. -/
theorem xsize0_4 : ∀ t : Fin cfg0.N, (cfg0.win 4).xsize (cfg0.grid.coords t) = ![488, 512] := by decide +kernel

/-- A row below 488 of the second labels' block is copied in from the array. -/
theorem moved0_2 (t : Fin cfg0.N) (j : Fin 512) (i : Fin 1024) (hj : j.val < 488) :
    (cfg0.win 2).moved (cfg0.grid.coords t) (ix2 j i : S512x1024.Idx) = true :=
  ((cfg0.win 2).moved_iff _ _).mpr fun a => by
    rw [xsize0_2 t]; match a with | ⟨0, _⟩ => exact hj | ⟨1, _⟩ => exact i.isLt

/-- A row below 488 of the second block of centers is copied in from the array. -/
theorem moved0_4 (t : Fin cfg0.N) (j : Fin 512) (i : Fin 512) (hj : j.val < 488) :
    (cfg0.win 4).moved (cfg0.grid.coords t) (ix2 j i : S512x512.Idx) = true :=
  ((cfg0.win 4).moved_iff _ _).mpr fun a => by
    rw [xsize0_4 t]; match a with | ⟨0, _⟩ => exact hj | ⟨1, _⟩ => exact i.isLt

/-- The rows inside the array do not depend on what the buffer held. -/
theorem labFill_agree (c : Dev nD) (t : Fin cfg0.N) (d d' : Vec Ideal S512x1024 .f32) : Agree (labFill m c t d) (labFill m c t d') :=
  fun j i hj => by
    unfold labFill Pipeline.Window.fill
    rw [dif_pos (moved0_2 t j i hj), dif_pos (moved0_2 t j i hj)]

/-- The same of the second block of centers. -/
theorem cenFill_agree (c : Dev nD) (t : Fin cfg0.N) (d d' : Vec Ideal S512x512 .f32) : Agree (cenFill m c t d) (cenFill m c t d') :=
  fun j i hj => by
    unfold cenFill Pipeline.Window.fill
    rw [dif_pos (moved0_4 t j i hj), dif_pos (moved0_4 t j i hj)]

/-! ## The accumulators -/

/-- The grid's point of a number. -/
def pt (n : ℕ) : Fin cfg0.N := ⟨n % 4, by rw [show cfg0.N = 4 from N_0]; omega⟩

/-- A point is the point of its number. -/
theorem pt_val (t : Fin cfg0.N) : pt t.val = t :=
  Fin.ext (Nat.mod_eq_of_lt (lt_of_lt_of_eq t.isLt N_0))

/-- The first accumulator after a point: the products of the points so far, added up. -/
def acc1 (c : Dev nD) : ℕ → Vec Ideal S512x514 .bf16
  | 0 => k0_pay3 (featBlk m c (pt 0)) (labBlk1 m c (pt 0))
  | n + 1 => k0_pay4 (featBlk m c (pt (n + 1))) (labBlk1 m c (pt (n + 1))) (acc1 c n)

/-- The second accumulator likewise, its labels' blocks over zeros. -/
def acc2 (c : Dev nD) : ℕ → Vec Ideal S512x514 .bf16
  | 0 => k0_pay6 (featBlk m c (pt 0)) (labBlk2 m c (pt 0))
  | n + 1 => k0_pay7 (featBlk m c (pt (n + 1))) (labBlk2 m c (pt (n + 1))) (acc2 c n)

/-- A later point adds its products to the first accumulator. -/
theorem acc1_succ (c : Dev nD) (t : Fin cfg0.N) (n : ℕ) (h : t.val = n + 1) :
    acc1 m c t.val = k0_pay4 (featBlk m c t) (labBlk1 m c t) (acc1 m c n) := by
  have ht : pt (n + 1) = t := h ▸ pt_val t
  rw [h, acc1, ht]

/-- A later point adds its products to the second accumulator. -/
theorem acc2_succ (c : Dev nD) (t : Fin cfg0.N) (n : ℕ) (h : t.val = n + 1) :
    acc2 m c t.val = k0_pay7 (featBlk m c t) (labBlk2 m c t) (acc2 m c n) := by
  have ht : pt (n + 1) = t := h ▸ pt_val t
  rw [h, acc2, ht]

/-- The kernel's result. -/
def loss (c : Dev nD) : EReal := outVal (cenBlk1 m c (pt 3)) (cenBlk2 m c (pt 3)) (acc1 m c 3) (acc2 m c 3)

/-! ## The proof data -/

/-- What the accumulators hold before the point of a number: nothing is known before the first. -/
def inv (c : Dev nD) (n : ℕ) : sProp 𝕄 :=
  iprop((∃ A, ⌜∀ k, n = k + 1 → A = acc1 m c k⌝ ∗ at_ (F := Ideal) c (Memref.whole cc0_scratch0) A)
    ∗ (∃ A, ⌜∀ k, n = k + 1 → Agree A (acc2 m c k)⌝ ∗ at_ (F := Ideal) c (Memref.whole cc0_scratch1) A)
    ∗ (∃ r, prngReg c r))

/-- The proof data: the arrays as the region finds them; each input's buffer as it was found; the output's at the result;
    the invariant `inv`; the shares of the arrays that two windows read; nothing owed. -/
def dats (_ : Fin 1) (c : Dev nD) : Dat τ (Elt Ideal) Unit ℕ (UR sig nD τ) ℕ cfg0 c where
  A w := V m c (Pipeline.arrRef spec0 w)
  after w t := match w with
    | ⟨0, _⟩ => featBlk m c t
    | ⟨1, _⟩ => labBlk1 m c t
    | ⟨2, _⟩ => labBlk2 m c t
    | ⟨3, _⟩ => cenBlk1 m c t
    | ⟨4, _⟩ => cenBlk2 m c t
    | ⟨5, _⟩ => fun _ => loss m c
  Φ t := inv m c t.val
  q w := Pipeline.shareOf spec0 w
  owed _ := 0

/-- The arrays the launch starts from are the host's. -/
theorem A_eq (c : Dev nD) (w : Fin cfg0.W) : (dats m 0 c).A w = V m c (Pipeline.arrRef spec0 w) := by dsimp only [dats]

/-- Before a point's body the first window holds the feature block. -/
theorem before_0 (c : Dev nD) (t : Fin cfg0.N) (d) : (dats m 0 c).before 0 t d = featBlk m c t :=
  before0_0_of m _ (A_eq m c 0) (fun _ => rfl) t d

/-- The second holds the first labels' block. -/
theorem before_1 (c : Dev nD) (t : Fin cfg0.N) (d) : (dats m 0 c).before 1 t d = labBlk1 m c t :=
  before0_1_of m _ (A_eq m c 1) (fun _ => rfl) t d

/-- The third holds the second labels' block over whatever was there. -/
theorem before_2 (c : Dev nD) (t : Fin cfg0.N) (d) : (dats m 0 c).before 2 t d = labFill m c t d := by
  unfold Dat.before; rw [if_pos (fetch0_2 t)]; rfl

/-- The fourth holds the first block of centers. -/
theorem before_3 (c : Dev nD) (t : Fin cfg0.N) (d) : (dats m 0 c).before 3 t d = cenBlk1 m c t :=
  before0_3_of m _ (A_eq m c 3) (fun _ => rfl) t d

/-- The fifth holds the second block of centers over whatever was there. -/
theorem before_4 (c : Dev nD) (t : Fin cfg0.N) (d) : (dats m 0 c).before 4 t d = cenFill m c t d :=
  ((dats m 0 c).before_in_eq_fetched 4 rfl (fun _ => rfl)
      (fun t t' h => funext fun a => congrArg (fun n => Pipeline.Clip.of n ((cfg0.win 4).size a) (S1000x512.size a)) (congrFun h a))
      (fun t => by
        show (cfg0.win 4).cut (cfg0.grid.coords t) (cenBlk2 m c t) = _
        unfold cenBlk2 cenFill; rw [Pipeline.Window.cut_fill]; unfold Dat.blockOf iblk; rw [A_eq]) t d).trans
    (by unfold Dat.fetched cenFill Dat.blockOf iblk; rw [A_eq])

end Cert.KernelIdeal.Hand
-- ==== Proof.KernelIdeal.Result.lean ====
/-
  What the kernel's result holds at the end, and what the blocks of its windows read: the arrays' entries, at the ideal
  values.
-/
module

public import proofs.«01_k».proof.Proof.KernelIdeal.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable (m : (ℓ : Loc nD τ sig) → Buf (Elt Ideal) ℓ)

/-! ## The result -/

/-- The result's array ends at the value the last point stored. -/
theorem arrAt_out (c : Dev nD) : (dats m 0 c).arrAt 5 cfg0.N = fun _ => loss m c := by
  have hw : ((cfg0.win 5).blk t0_3).view.read (Elt Ideal) ((dats m 0 c).arrAt 5 cfg0.N) = (dats m 0 c).flushed 5 t0_3 := by
    rw [show cfg0.N = t0_3.val + 1 from N_0, (dats m 0 c).arrAt_succ 5 t0_3, if_pos ((flush0_5 t0_3).mpr rfl)]
    exact View.read_write_univ _ _
  have hr : ((cfg0.win 5).blk t0_3).view.read (Elt Ideal) ((dats m 0 c).arrAt 5 cfg0.N) = (dats m 0 c).arrAt 5 cfg0.N :=
    Memref.read_access_unit_zero (Elt Ideal) main_v1 (funext fun a => by fin_cases a <;> decide) (fun a => by fin_cases a <;> decide) _
  rw [← hr, hw]
  rfl

/-- The host's last line hands the result on. -/
theorem out_eq (c : Dev nD) :
    Pipeline.afterTail₀ cfgs (dats m) 0 (V0 m) [hostOps1] c main_v2 = fun _ => loss m c := by
  unfold Pipeline.afterTail₀ hostOps1
  rw [List.flatten_cons, List.flatten_nil, List.append_nil, StableHlo.after_cons, StableHlo.after_nil, StableHlo.reshape_result]
  have ha : Pipeline.withArrays spec0 c (V0 m c) (fun w => (dats m 0 c).arrAt w cfg0.N) (Proc.devRef .tc main_v1) = fun _ => loss m c :=
    (Pipeline.withArrays_arr_shared spec0 c (V0 m c) _
      ((dats m 0 c).arrAt_sharedIn sharedIn0 (V0 m c) (A_eq m c) cfg0.N) 5).trans (arrAt_out m c)
  funext i
  show shapeCast S_ (Pipeline.withArrays spec0 c (V0 m c) (fun w => (dats m 0 c).arrAt w cfg0.N) (Proc.devRef .tc main_v1)) _ i = _
  rw [ha]
  rfl

/-! ## The blocks' entries -/

/-- A feature: an entry of the first argument. -/
abbrev feat (c : Dev nD) (r : Fin 4096) (d : Fin 512) : EReal := m ((c : Thread nD τ).loc main_arg0) (ix2 r d)
/-- A label: an entry of the second. -/
abbrev lab (c : Dev nD) (r : Fin 4096) (j : Fin 1000) : EReal := m ((c : Thread nD τ).loc main_arg1) (ix2 r j)
/-- A center's coordinate: an entry of the third. -/
abbrev cen (c : Dev nD) (j : Fin 1000) (d : Fin 512) : EReal := m ((c : Thread nD τ).loc main_arg2) (ix2 j d)

/-- The first half's class of a row. -/
def low (j : Fin 512) : Fin 1000 := ⟨j.val, by omega⟩
/-- The second half's class of a row below 488. -/
def high (j : Fin 512) (hj : j.val < 488) : Fin 1000 := ⟨512 + j.val, by omega⟩
/-- The row of the whole arrays that a point's row is. -/
def row (t : Fin cfg0.N) (i : Fin 1024) : Fin 4096 := ⟨t.val * 1024 + i.val, by have := lt_of_lt_of_eq t.isLt N_0; omega⟩

/-- The grid coordinate of a point is its number. -/
theorem coord0 : ∀ t : Fin cfg0.N, (BitVec.ofNat 32 ((grid0.coords t) 0).val).toNat = t.val := by decide +kernel

/-- The first host line transposes the labels. -/
theorem V_main_v0 (c : Dev nD) :
    V m c main_v0 = transpose S1000x4096 [1, 0] (m ((c : Thread nD τ).loc main_arg1)) transposes_S4096x1000_S1000x4096_1_0 := by
  unfold V V0 hostOps0
  rw [List.flatten_cons, List.flatten_nil, List.append_nil, StableHlo.after_cons, StableHlo.after_nil, StableHlo.unary_result]

/-- An element of the transposed labels. -/
theorem V_main_v0_apply (c : Dev nD) (j : Fin 1000) (r : Fin 4096) : V m c main_v0 (ix2 j r) = lab m c r j := by
  rw [V_main_v0]
  pointwise

/-- An element of a point's feature block, in the features. -/
theorem featBlk_apply (c : Dev nD) (t : Fin cfg0.N) (i : Fin 1024) (d : Fin 512) :
    featBlk m c t (ix2 i d) = feat m c (row t i) d := by
  unfold featBlk iblk
  rw [show V m c (Pipeline.arrRef spec0 0) = m ((c : Thread nD τ).loc main_arg0) from V_main_arg0 m c]
  refine congrArg (m ((c : Thread nD τ).loc main_arg0)) (funext fun a => Fin.ext ?_)
  refine (Pipeline.Window.rect_emb_val win0_0 t _ a).trans ?_
  match a with
  | ⟨0, _⟩ =>
    show (BitVec.ofNat 32 ((grid0.coords t) 0).val).toNat * 1024 + i.val = t.val * 1024 + i.val
    rw [coord0]
  | ⟨1, _⟩ =>
    show 0 * 512 + d.val = d.val
    omega

/-- An element of a point's first labels' block, in the labels. -/
theorem labBlk1_apply (c : Dev nD) (t : Fin cfg0.N) (j : Fin 512) (i : Fin 1024) :
    labBlk1 m c t (ix2 j i) = lab m c (row t i) (low j) := by
  rw [← V_main_v0_apply]
  unfold labBlk1 X0_1 Pipeline.Window.fill
  rw [dif_pos (moved0_1 t _)]
  unfold iblk
  refine congrArg (V m c main_v0) (funext fun a => Fin.ext ?_)
  refine (Pipeline.Window.rect_emb_val win0_1 t _ a).trans ?_
  match a with
  | ⟨0, _⟩ =>
    show 0 * 512 + j.val = j.val
    omega
  | ⟨1, _⟩ =>
    show (BitVec.ofNat 32 ((grid0.coords t) 0).val).toNat * 1024 + i.val = t.val * 1024 + i.val
    rw [coord0]

/-- An element of a point's second labels' block below row 488, in the labels. -/
theorem labBlk2_apply (c : Dev nD) (t : Fin cfg0.N) (j : Fin 512) (hj : j.val < 488) (i : Fin 1024) :
    labBlk2 m c t (ix2 j i) = lab m c (row t i) (high j hj) := by
  rw [← V_main_v0_apply]
  unfold labBlk2 labFill Pipeline.Window.fill
  rw [dif_pos (moved0_2 t j i hj)]
  unfold iblk
  refine congrArg (V m c main_v0) (funext fun a => Fin.ext ?_)
  refine (Pipeline.Window.rect_emb_val win0_2 t _ a).trans ?_
  match a with
  | ⟨0, _⟩ =>
    show 1 * 512 + j.val = 512 + j.val
    omega
  | ⟨1, _⟩ =>
    show (BitVec.ofNat 32 ((grid0.coords t) 0).val).toNat * 1024 + i.val = t.val * 1024 + i.val
    rw [coord0]

/-- An element of the first block of centers, in the centers. -/
theorem cenBlk1_apply (c : Dev nD) (t : Fin cfg0.N) (j : Fin 512) (d : Fin 512) :
    cenBlk1 m c t (ix2 j d) = cen m c (low j) d := by
  unfold cenBlk1 X0_3 Pipeline.Window.fill
  rw [dif_pos (moved0_3 t _)]
  unfold iblk
  rw [show V m c (Pipeline.arrRef spec0 3) = m ((c : Thread nD τ).loc main_arg2) from V_main_arg2 m c]
  refine congrArg (m ((c : Thread nD τ).loc main_arg2)) (funext fun a => Fin.ext ?_)
  refine (Pipeline.Window.rect_emb_val win0_3 t _ a).trans ?_
  match a with
  | ⟨0, _⟩ =>
    show 0 * 512 + j.val = j.val
    omega
  | ⟨1, _⟩ =>
    show 0 * 512 + d.val = d.val
    omega

/-- An element of the second block of centers below row 488, in the centers. -/
theorem cenBlk2_apply (c : Dev nD) (t : Fin cfg0.N) (j : Fin 512) (hj : j.val < 488) (d : Fin 512) :
    cenBlk2 m c t (ix2 j d) = cen m c (high j hj) d := by
  unfold cenBlk2 cenFill Pipeline.Window.fill
  rw [dif_pos (moved0_4 t j d hj)]
  unfold iblk
  rw [show V m c (Pipeline.arrRef spec0 4) = m ((c : Thread nD τ).loc main_arg2) from V_main_arg2 m c]
  refine congrArg (m ((c : Thread nD τ).loc main_arg2)) (funext fun a => Fin.ext ?_)
  refine (Pipeline.Window.rect_emb_val win0_4 t _ a).trans ?_
  match a with
  | ⟨0, _⟩ =>
    show 1 * 512 + j.val = 512 + j.val
    omega
  | ⟨1, _⟩ =>
    show 0 * 512 + d.val = d.val
    omega

end Cert.KernelIdeal.Hand
-- ==== Proof.KernelIdeal.Run.lean ====
/-
  The kernel's run at the ideal values: the body at each grid point, the pipeline's obligation, and the launch. The kernel
  ends with its result at `loss`, its arguments as launched and every counter at zero.
-/
module

public import proofs.«01_k».proof.Proof.KernelIdeal.Result

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-! ## The branches taken at each point -/

/-- At the first point the accumulators are started and nothing else is done. -/
theorem conds_first : isZero (grid0.coords t0_0) = 1#1 ∧ ¬ isPos (grid0.coords t0_0) = 1#1 ∧ ¬ k0_cond5 (grid0.coords t0_0) = 1#1 := by
  decide +kernel
/-- At the points between, the accumulators are added to and nothing else is done. -/
theorem conds_middle (t : Fin cfg0.N) (h0 : t.val ≠ 0) (h3 : t.val ≠ 3) :
    ¬ isZero (grid0.coords t) = 1#1 ∧ isPos (grid0.coords t) = 1#1 ∧ ¬ k0_cond5 (grid0.coords t) = 1#1 := by
  rcases fin_N0 t with rfl | rfl | rfl | rfl
  · exact absurd rfl h0
  · decide +kernel
  · decide +kernel
  · exact absurd rfl h3
/-- At the last point the accumulators are added to and the result is stored. -/
theorem conds_last : ¬ isZero (grid0.coords t0_3) = 1#1 ∧ isPos (grid0.coords t0_3) = 1#1 ∧ k0_cond5 (grid0.coords t0_3) = 1#1 := by
  decide +kernel

/-- The output's buffer is left alone before the last point. -/
theorem idle_early (t : Fin cfg0.N) (h3 : t.val ≠ 3) : cfg0.idle 5 (cfg0.grid.coords t) = true := by
  rcases fin_N0 t with rfl | rfl | rfl | rfl
  · decide +kernel
  · decide +kernel
  · decide +kernel
  · exact absurd rfl h3
/-- The output's buffer is written at the last point. -/
theorem idle_last : cfg0.idle 5 (cfg0.grid.coords t0_3) = false := by decide +kernel
/-- The output's buffer is not copied out before the last point. -/
theorem flush_early (t : Fin cfg0.N) (h3 : t.val ≠ 3) : (cfg0.win 5).flush t = false := by
  rw [← Bool.not_eq_true, flush0_5]
  have := lt_of_lt_of_eq t.isLt N_0
  omega

/-! ## The body at a point -/

/-- Before the last point the body adds the point's products to the accumulators and touches nothing else. -/
theorem sound_early (c : Dev nD) (t : Fin cfg0.N) (h3 : t.val ≠ 3) (d : Vec Ideal S512x1024 .f32) (K : PUnit → sProp 𝕄) :
    iprop(inv m c t.val ∗ at_ c (st0_0 t) (featBlk m c t) ∗ at_ c (st0_1 t) (labBlk1 m c t) ∗ at_ c (st0_2 t) (labFill m c t d)
        ∗ (iprop(inv m c (t.val + 1) ∗ at_ c (st0_0 t) (featBlk m c t) ∗ at_ c (st0_1 t) (labBlk1 m c t)
            ∗ at_ c (st0_2 t) (labFill m c t d)) -∗ K ⟨⟩))
      ⊢ wp frame (wpE (defs₀ (F := Ideal)) Variants.none c none) Set.univ (bodyAt0 t) K := by
  unfold inv bodyAt0
  iintro ⟨⟨⟨%A1, %h1, H7⟩, ⟨%A2, %h2, H8⟩, Hg⟩, H1, H2, H3, Hk⟩
  by_cases h0 : t.val = 0
  · obtain rfl : t = t0_0 := Fin.ext h0
    iapply (run_first c (grid0.coords t0_0) conds_first.1 conds_first.2.1 conds_first.2.2 _ _ _ _ _ _ _ _ _ _ _ _ _ _ _ _
      (featBlk m c t0_0) (labBlk1 m c t0_0) (labFill m c t0_0 d) A1 A2)
    isplitl [H1]; · iexact H1
    isplitl [H2]; · iexact H2
    isplitl [H3]; · iexact H3
    isplitl [H7]; · iexact H7
    isplitl [H8]; · iexact H8
    iintro ⟨H1, H2, H3, H7, H8⟩
    iapply Hk
    isplitl [H7 H8 Hg]
    · isplitl [H7]
      · iexists _; isplitr; swap; (· iexact H7); ipureintro
        intro k hk
        obtain rfl : k = 0 := by rw [h0] at hk; omega
        rfl
      isplitl [H8]
      · iexists _; isplitr; swap; (· iexact H8); ipureintro
        intro k hk
        obtain rfl : k = 0 := by rw [h0] at hk; omega
        exact (labFill_agree m c t0_0 d _).pay6 _
      iexact Hg
    isplitl [H1]; · iexact H1
    isplitl [H2]; · iexact H2
    iexact H3
  · obtain ⟨n, hn⟩ := Nat.exists_eq_succ_of_ne_zero h0
    obtain ⟨z, p, l⟩ := conds_middle t h0 h3
    iapply (run_middle c (grid0.coords t) z p l _ _ _ _ _ _ _ _ _ _ _ _ _ _ _ _
      (featBlk m c t) (labBlk1 m c t) (labFill m c t d) A1 A2)
    isplitl [H1]; · iexact H1
    isplitl [H2]; · iexact H2
    isplitl [H3]; · iexact H3
    isplitl [H7]; · iexact H7
    isplitl [H8]; · iexact H8
    iintro ⟨H1, H2, H3, H7, H8⟩
    iapply Hk
    isplitl [H7 H8 Hg]
    · isplitl [H7]
      · iexists _; isplitr; swap; (· iexact H7); ipureintro
        intro k hk
        obtain rfl : t.val = k := by omega
        rw [acc1_succ m c t n hn, h1 n hn]
      isplitl [H8]
      · iexists _; isplitr; swap; (· iexact H8); ipureintro
        intro k hk
        obtain rfl : t.val = k := by omega
        rw [acc2_succ m c t n hn]
        exact (labFill_agree m c t d _).pay7 (h2 n hn) _
      iexact Hg
    isplitl [H1]; · iexact H1
    isplitl [H2]; · iexact H2
    iexact H3

/-- At the last point it also stores the result. -/
theorem sound_last (c : Dev nD) (d2 : Vec Ideal S512x1024 .f32) (d4 : Vec Ideal S512x512 .f32) (X6 : Vec Ideal S1x1 .f32)
    (K : PUnit → sProp 𝕄) :
    iprop(inv m c 3 ∗ at_ c (st0_0 t0_3) (featBlk m c t0_3) ∗ at_ c (st0_1 t0_3) (labBlk1 m c t0_3)
        ∗ at_ c (st0_2 t0_3) (labFill m c t0_3 d2) ∗ at_ c (st0_3 t0_3) (cenBlk1 m c t0_3) ∗ at_ c (st0_4 t0_3) (cenFill m c t0_3 d4)
        ∗ at_ c (st0_5 t0_3) X6
        ∗ (iprop(inv m c 4 ∗ at_ c (st0_0 t0_3) (featBlk m c t0_3) ∗ at_ c (st0_1 t0_3) (labBlk1 m c t0_3)
            ∗ at_ c (st0_2 t0_3) (labFill m c t0_3 d2) ∗ at_ c (st0_3 t0_3) (cenBlk1 m c t0_3) ∗ at_ c (st0_4 t0_3) (cenFill m c t0_3 d4)
            ∗ at_ (F := Ideal) (sp := .smem) (s := S1x1) (e := .f32) c (st0_5 t0_3) (fun _ => loss m c)) -∗ K ⟨⟩))
      ⊢ wp frame (wpE (defs₀ (F := Ideal)) Variants.none c none) Set.univ (bodyAt0 t0_3) K := by
  unfold inv bodyAt0
  iintro ⟨⟨⟨%A1, %h1, H7⟩, ⟨%A2, %h2, H8⟩, Hg⟩, H1, H2, H3, H4, H5, H6, Hk⟩
  iapply (run_last c (grid0.coords t0_3) conds_last.1 conds_last.2.1 conds_last.2.2 _ _ _ _ _ _ _ _ _ _ _ _ _ _ _ _
    (featBlk m c t0_3) (labBlk1 m c t0_3) (labFill m c t0_3 d2) (cenBlk1 m c t0_3) (cenFill m c t0_3 d4) X6 A1 A2)
  have e1 : k0_pay4 (featBlk m c t0_3) (labBlk1 m c t0_3) A1 = acc1 m c 3 := by rw [h1 2 rfl]; exact (acc1_succ m c t0_3 2 rfl).symm
  have e2 : Agree (k0_pay7 (featBlk m c t0_3) (labFill m c t0_3 d2) A2) (acc2 m c 3) := by
    rw [show acc2 m c 3 = _ from acc2_succ m c t0_3 2 rfl]
    exact (labFill_agree m c t0_3 d2 _).pay7 (h2 2 rfl) _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  have e3 : outVal (cenBlk1 m c t0_3) (cenFill m c t0_3 d4) (k0_pay4 (featBlk m c t0_3) (labBlk1 m c t0_3) A1)
      (k0_pay7 (featBlk m c t0_3) (labFill m c t0_3 d2) A2) = loss m c := by
    rw [e1, outVal_congr _ _ (cenFill_agree m c t0_3 d4 fun _ => (0 : EReal)) e2]; rfl
  rw [e3]
  iintro ⟨H1, H2, H3, H4, H5, H6, H7, H8⟩
  iapply Hk
  isplitl [H7 H8 Hg]
  · isplitl [H7]
    · iexists _; isplitr; swap; (· iexact H7); ipureintro
      intro k hk
      obtain rfl : k = 3 := by omega
      exact e1
    isplitl [H8]
    · iexists _; isplitr; swap; (· iexact H8); ipureintro
      intro k hk
      obtain rfl : k = 3 := by omega
      exact e2
    iexact Hg
  isplitl [H1]; · iexact H1
  isplitl [H2]; · iexact H2
  isplitl [H3]; · iexact H3
  isplitl [H4]; · iexact H4
  isplitl [H5]; · iexact H5
  iexact H6

/-! ## The pipeline's obligation -/

/-- The body table's row at a point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-! What the body hands back, window by window. -/

/-- The feature block, handed back as it was, is what its window is left at. -/
theorem leaves_0 (c : Dev nD) (t : Fin cfg0.N) : at_ c (st0_0 t) (featBlk m c t) ⊢ ((dats m 0 c).leaves 0 t : sProp 𝕄) := .rfl

/-- The first labels' block likewise. -/
theorem leaves_1 (c : Dev nD) (t : Fin cfg0.N) : at_ c (st0_1 t) (labBlk1 m c t) ⊢ ((dats m 0 c).leaves 1 t : sProp 𝕄) := by
  show _ ⊢ iprop(∃ d, owns (c : Thread nD τ) (st0_1 t) fullShare ((cfg0.win 1).fill (cfg0.grid.coords t) d ((cfg0.win 1).cut (cfg0.grid.coords t) (labBlk1 m c t))))
  iintro H; iexists (labBlk1 m c t); rw [(cfg0.win 1).fill_cut]; iexact H

/-- The second labels' block likewise, whatever its rows past the array's end hold. -/
theorem leaves_2 (c : Dev nD) (t : Fin cfg0.N) (d : Vec Ideal S512x1024 .f32) :
    at_ c (st0_2 t) (labFill m c t d) ⊢ ((dats m 0 c).leaves 2 t : sProp 𝕄) := by
  show _ ⊢ iprop(∃ d, owns (c : Thread nD τ) (st0_2 t) fullShare ((cfg0.win 2).fill (cfg0.grid.coords t) d ((cfg0.win 2).cut (cfg0.grid.coords t) (labBlk2 m c t))))
  iintro H; iexists d; rw [(cfg0.win 2).cut_fill]; iexact H

/-- The first block of centers likewise. -/
theorem leaves_3 (c : Dev nD) (t : Fin cfg0.N) : at_ c (st0_3 t) (cenBlk1 m c t) ⊢ ((dats m 0 c).leaves 3 t : sProp 𝕄) := by
  show _ ⊢ iprop(∃ d, owns (c : Thread nD τ) (st0_3 t) fullShare ((cfg0.win 3).fill (cfg0.grid.coords t) d ((cfg0.win 3).cut (cfg0.grid.coords t) (cenBlk1 m c t))))
  iintro H; iexists (cenBlk1 m c t); rw [(cfg0.win 3).fill_cut]; iexact H

/-- The second block of centers likewise, whatever its rows past the array's end hold. -/
theorem leaves_4 (c : Dev nD) (t : Fin cfg0.N) (d : Vec Ideal S512x512 .f32) :
    at_ c (st0_4 t) (cenFill m c t d) ⊢ ((dats m 0 c).leaves 4 t : sProp 𝕄) := by
  show _ ⊢ iprop(∃ d, owns (c : Thread nD τ) (st0_4 t) fullShare ((cfg0.win 4).fill (cfg0.grid.coords t) d ((cfg0.win 4).cut (cfg0.grid.coords t) (cenBlk2 m c t))))
  iintro H; iexists d; rw [(cfg0.win 4).cut_fill]; iexact H

/-- Before the last point the output's buffer may be left at anything. -/
theorem leaves_5_early (c : Dev nD) (t : Fin cfg0.N) (h3 : t.val ≠ 3) (d) :
    owns (c : Thread nD τ) (st0_5 t) fullShare ((dats m 0 c).before 5 t d) ⊢ ((dats m 0 c).leaves 5 t : sProp 𝕄) := by
  unfold Dat.leaves
  rw [idle_early t h3, flush_early t h3]
  iintro H; iexists d; iexact H

/-- At the last point the output's buffer is left at the result. -/
theorem leaves_5_last (c : Dev nD) :
    at_ (F := Ideal) (sp := .smem) (s := S1x1) (e := .f32) c (st0_5 t0_3) (fun _ => loss m c) ⊢ ((dats m 0 c).leaves 5 t0_3 : sProp 𝕄) := by
  unfold Dat.leaves
  rw [idle_last]
  exact .rfl

/-- What the body is called with at a point: the invariant, what is owed, each buffer at what it then holds. -/
def bodyPre (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the invariant a point later, nothing more owed, each buffer as the obligation describes it. -/
def bodyPost (c : Dev nD) (t : Fin cfg0.N) : sProp 𝕄 :=
  iprop(inv m c (t.val + 1) ∗ (dats m 0 c).owesAt () t.castSucc
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

/-- The body at any point goes from `bodyPre` to `bodyPost`. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  iintro ⟨HI, HO, ⟨%d0, H0⟩, ⟨%d1, H1⟩, ⟨%d2, H2⟩, ⟨%d3, H3⟩, ⟨%d4, H4⟩, ⟨%d5, H5⟩⟩
  rw [before_0, before_1, before_2, before_3, before_4]
  by_cases h3 : t.val = 3
  · obtain rfl : t = t0_3 := Fin.ext h3
    iapply (sound_last m c d2 d4 ((dats m 0 c).before 5 t0_3 d5))
    isplitl [HI]; · iexact HI
    isplitl [H0]; · iexact H0
    isplitl [H1]; · iexact H1
    isplitl [H2]; · iexact H2
    isplitl [H3]; · iexact H3
    isplitl [H4]; · iexact H4
    isplitl [H5]; · iexact H5
    iintro ⟨HI, H0, H1, H2, H3, H4, H5⟩
    isplitl [HI]; · iexact HI
    isplitl [HO]; · iexact HO
    isplitl [H0]; · iapply (leaves_0 m c t0_3); iexact H0
    isplitl [H1]; · iapply (leaves_1 m c t0_3); iexact H1
    isplitl [H2]; · iapply (leaves_2 m c t0_3 d2); iexact H2
    isplitl [H3]; · iapply (leaves_3 m c t0_3); iexact H3
    isplitl [H4]; · iapply (leaves_4 m c t0_3 d4); iexact H4
    iapply (leaves_5_last m c); iexact H5
  · iapply (sound_early m c t h3 d2)
    isplitl [HI]; · iexact HI
    isplitl [H0]; · iexact H0
    isplitl [H1]; · iexact H1
    isplitl [H2]; · iexact H2
    iintro ⟨HI, H0, H1, H2⟩
    isplitl [HI]; · iexact HI
    isplitl [HO]; · iexact HO
    isplitl [H0]; · iapply (leaves_0 m c t); iexact H0
    isplitl [H1]; · iapply (leaves_1 m c t); iexact H1
    isplitl [H2]; · iapply (leaves_2 m c t d2); iexact H2
    isplitl [H3]; · iapply (leaves_3 m c t); iexact H3
    isplitl [H4]; · iapply (leaves_4 m c t d4); iexact H4
    iapply (leaves_5_early m c t h3 d5); iexact H5

/-- The obligation: each input's buffer is handed back at its block on the rows inside the array, the output's untouched
    before the last point and at the result there. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-! ## The launch -/

/-- The invariant before the first point and after the last, conjunct by conjunct. -/
theorem ΦA_eq (c : Dev nD) :
    (Pipeline.ΦA spec0 c : sProp 𝕄)
      = iprop(iprop((∃ A, at_ (F := Ideal) c (Memref.whole cc0_scratch0) A) ∗ (∃ A, at_ (F := Ideal) c (Memref.whole cc0_scratch1) A)) ∗ (∃ r, prngReg c r)) := by
  unfold Pipeline.ΦA; rw [scopedRest0_eq]; unfold at_; simp only [owns_whole]; try rfl

/-- What the launch hands over is the invariant before the first point. -/
theorem inv_first (c : Dev nD) : (Pipeline.ΦA spec0 c : sProp 𝕄) ⊢ inv m c 0 := by
  rw [ΦA_eq]; unfold inv
  iintro ⟨⟨⟨%A, H7⟩, ⟨%B, H8⟩⟩, Hg⟩
  isplitl [H7]
  · iexists A; isplitr; swap; (· iexact H7); ipureintro; intro k hk; exact absurd hk (Nat.succ_ne_zero k).symm
  isplitl [H8]
  · iexists B; isplitr; swap; (· iexact H8); ipureintro; intro k hk; exact absurd hk (Nat.succ_ne_zero k).symm
  iexact Hg

/-- The invariant after any number of points gives back what the launch takes. -/
theorem inv_last (c : Dev nD) (n : ℕ) : inv m c n ⊢ (Pipeline.ΦA spec0 c : sProp 𝕄) := by
  rw [ΦA_eq]; unfold inv
  iintro ⟨⟨%A, -, H7⟩, ⟨%B, -, H8⟩, Hg⟩
  isplitl [H7 H8]
  · isplitl [H7]; · iexists A; iexact H7
    iexists B; iexact H8
  iexact Hg

set_option backward.isDefEq.respectTransparency.types false in
/-- The kernel ends with its result at `loss`, its arguments as launched and every counter at zero. -/
theorem run_main :
    θ_run defs (onTc (τ := τ) (main (F := Ideal))) ⟨m, fun _ => 0, ρ⟩ (fun r => (∀ c : Dev nD,
      r.2.mem ((c.tc : Thread nD τ).loc main_v2) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_track_shared (Q' := _) cfgs (dats m) (0 : Fin 1) launch₀0 defs₀ Variants.none m ρ main
    (hbody := body_obligation m) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := inv_first m) (hout := fun c => inv_last m c _)
    (hQ' := fun r h => ⟨fun c =>
      ⟨((h.1 c).2 main_v2 (Pipeline.mem_restRefs_of main_v2 (by decide) (by decide))).trans (out_eq m c),
        ((h.1 c).1 0).trans (((dats m 0 c).arrAt_in 0 rfl _).trans ((A_eq m c 0).trans (V_main_arg0 m c))),
        ((h.1 c).2 main_arg1 (Pipeline.mem_restRefs_of main_arg1 (by decide) (by decide))).trans (W_main_arg1 m (dats m) c),
        ((h.1 c).1 4).trans (((dats m 0 c).arrAt_in 4 rfl _).trans ((A_eq m c 4).trans (V_main_arg2 m c)))⟩, h.2⟩)

end Cert.KernelIdeal.Hand
-- ==== Proof.Finite.lean ====
/-
  What the precondition says of each argument: every element is a real number.
-/
module

public import proofs.«01_k».proof.Pre_all_finite
public import proofs.«01_k».proof.Proof.Gen.Pre_all_finite
public import Idealize.ShloMosaic.Lib.Pointwise
public import Idealize.ShloMosaic.Lib.IdealHost
public import Idealize.ShloMosaic.Lib.ReduceAll
public import Idealize.ShloMosaic.Lib.Affine

@[expose] public section

noncomputable section

namespace Cert.Pre_all_finite.Hand

open Cert.Pre_all_finite Cert.Pre_all_finite.Gen
open Idealize.ShloMosaic

/-- The bound the precondition compares with is infinity. -/
theorem inf_bits : Ideal.ofBits .f32 0x7F800000#32 = (⊤ : EReal) := by
  simp [Ideal.ofBits, Ideal.ieee]

/-- A value whose absolute value compares below infinity is a real number. -/
theorem real_of_lt (x : EReal) (h : BitVec.ofBool (decide (max x (-x) < Ideal.ofBits .f32 0x7F800000#32)) = 1#1) :
    ((x.toReal : ℝ) : EReal) = x := by
  rw [inf_bits] at h
  have hx : max x (-x) < ⊤ := by
    by_contra hn
    rw [decide_eq_false hn] at h
    exact absurd h (by decide)
  obtain ⟨h1, h2⟩ := max_lt_iff.1 hx
  exact EReal.coe_toReal h1.ne fun e => h2.ne (by rw [e]; rfl)

variable {a0 : FVec Ideal S4096x512 .f32} {a1 : FVec Ideal S4096x1000 .f32} {a2 : FVec Ideal S1000x512 .f32}

/-- Under the precondition every element of the three arguments is a real number. -/
theorem all_real (h : fn a0 a1 a2 = fun _ => 1#1) :
    (∀ i, (((a0 i : EReal).toReal : ℝ) : EReal) = a0 i) ∧ (∀ i, (((a1 i : EReal).toReal : ℝ) : EReal) = a1 i)
      ∧ ∀ i, (((a2 i : EReal).toReal : ℝ) : EReal) = a2 i := by
  have hj := congrFun h (Shape.Idx.first h_S_)
  obtain ⟨h01, h2⟩ := IntOp.andi_eq_one.1 hj
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Pre_all_finite.Hand
-- ==== Proof.KernelIdeal.Value.lean ====
/-
  The scalar the kernel stores, in sums over whole arrays: a class's accumulator row is the sum over all 4096 rows of the
  label times the widened feature row.
-/
module

public import proofs.«01_k».proof.Proof.KernelIdeal.Result

@[expose] public section

noncomputable section

namespace Cert.KernelIdeal.Hand

open Cert.KernelIdeal Cert.KernelIdeal.Gen
open Idealize.ShloMosaic Idealize.ShloMosaic.TcCoe Idealize.SL.Sem

/-- A feature row widened: its 512 elements, then its sum of squares, then one. -/
def wide (F : Fin 4096 → Fin 512 → EReal) (r : Fin 4096) (k : Fin 514) : EReal :=
  if h : k.val < 512 then F r ⟨k.val, h⟩ else if k.val - 512 < 1 then ∑ d, F r d * F r d else 1

/-- One element of a class's row, over all rows of the batch: the labels times the widened features, added up. -/
def col (F : Fin 4096 → Fin 512 → EReal) (L : Fin 4096 → Fin 1000 → EReal) (j : Fin 1000) (k : Fin 514) : EReal :=
  ∑ r, L r j * wide F r k

/-- A sum over the 4096 rows is the sum over the four blocks' 1024 rows each. -/
theorem sum_rows (f : Fin 4096 → EReal) :
    ∑ r, f r = (∑ i, f (row (pt 0) i)) + (∑ i, f (row (pt 1) i)) + (∑ i, f (row (pt 2) i)) + ∑ i, f (row (pt 3) i) := by
  have e : ∀ (t : Fin 4) (i : Fin 1024), (finProdFinEquiv (m := 4) (n := 1024) (t, i) : Fin 4096) = row (pt t.val) i := fun t i =>
    Fin.ext (show i.val + 1024 * t.val = t.val % 4 * 1024 + i.val by rw [Nat.mod_eq_of_lt t.isLt]; omega)
  rw [← Equiv.sum_comp (finProdFinEquiv (m := 4) (n := 1024)) f, Fintype.sum_prod_type, Fin.sum_univ_four]
  simp only [e]
  rfl

variable (m : (ℓ : Loc nD τ sig) → Buf (Elt Ideal) ℓ) (c : Dev nD)

/-- The widened feature block of a point, in the features. -/
theorem gcol_apply (t : Fin cfg0.N) (i : Fin 1024) (k : Fin 514) : gcol (featBlk m c t) i k = wide (feat m c) (row t i) k := by
  simp only [gcol, wide, featBlk_apply]

/-- What a point adds to the first accumulator, in the arguments. -/
theorem prodAt1 (t : Fin cfg0.N) (j : Fin 512) (k : Fin 514) :
    prodAt (featBlk m c t) (labBlk1 m c t) j k = ∑ i, lab m c (row t i) (low j) * wide (feat m c) (row t i) k := by
  simp only [prodAt, gcol_apply, labBlk1_apply]

/-- What a point adds to a row below 488 of the second accumulator, in the arguments. -/
theorem prodAt2 (t : Fin cfg0.N) (j : Fin 512) (hj : j.val < 488) (k : Fin 514) :
    prodAt (featBlk m c t) (labBlk2 m c t) j k = ∑ i, lab m c (row t i) (high j hj) * wide (feat m c) (row t i) k := by
  simp only [prodAt, gcol_apply, labBlk2_apply m c t j hj]

/-- The first accumulator after the last grid point: the rows of classes 0 to 511. -/
theorem acc1_last (j : Fin 512) (k : Fin 514) : acc1 m c 3 (ix2 j k) = col (feat m c) (lab m c) (low j) k := by
  rw [col, sum_rows]
  simp only [acc1, pay3_apply, pay4_apply, prodAt1]

/-- The second accumulator after the last grid point: its first 488 rows are those of classes 512 to 999. -/
theorem acc2_last (j : Fin 512) (hj : j.val < 488) (k : Fin 514) :
    acc2 m c 3 (ix2 j k) = col (feat m c) (lab m c) (high j hj) k := by
  rw [col, sum_rows]
  simp only [acc2, pay6_eq, pay7_eq, pay3_apply, pay4_apply, prodAt2 m c _ j hj]

/-- Of a family over the classes 512 to 999, the member of a row of the second half, and 0 at the rows past the last class. -/
def upper (f : Fin 1000 → EReal) (j : Fin 512) : EReal := if h : j.val < 488 then f (high j h) else 0

/-- The stored scalar in sums over the arguments. -/
def lossOf (F : Fin 4096 → Fin 512 → EReal) (L : Fin 4096 → Fin 1000 → EReal) (C : Fin 1000 → Fin 512 → EReal) : EReal :=
  (tailOf (fun j => ∑ d, C (low j) d * C (low j) d) (fun j => C (low j)) (fun j => col F L (low j))
    + tailOf (fun j => ∑ d, upper (C · d) j * upper (C · d) j) (fun j d => upper (C · d) j) (fun j k => upper (col F L · k) j))
    * ((1 / 8192000 : ℝ) : EReal)

/-- The scalar the kernel stores, in sums over its arguments. -/
theorem loss_eq : loss m c = lossOf (feat m c) (lab m c) (cen m c) := by
  have hC : ∀ (j d : Fin 512), keep j (cenBlk2 m c (pt 3) (ix2 j d)) = upper (cen m c · d) j := fun j d => by
    unfold keep upper
    split
    · next h => exact cenBlk2_apply m c (pt 3) j h d
    · rfl
  have hA : ∀ (j : Fin 512) (k : Fin 514), keep j (acc2 m c 3 (ix2 j k)) = upper (col (feat m c) (lab m c) · k) j := fun j k => by
    unfold keep upper
    split
    · next h => exact acc2_last m c j h k
    · rfl
  rw [loss, outVal_eq, lossOf]
  simp only [hC, hA, acc1_last, cenBlk1_apply]

end Cert.KernelIdeal.Hand
-- ==== Proof.Reference.lean ====
/-
  What the reference computes at the ideal values, read at its one index: the weighted sum of the squared distances, halved
  and divided by the two counts.
-/
module

public import proofs.«01_k».proof.Proof.Gen.ReferenceIdeal.Run
public import proofs.«01_k».proof.Proof.Consts
public import Idealize.ShloMosaic.Lib.Pointwise
public import Idealize.ShloMosaic.Lib.IdealHost

@[expose] public section

noncomputable section

namespace Cert.ReferenceIdeal.Hand

open Cert.ReferenceIdeal Cert.ReferenceIdeal.Gen
open Idealize.ShloMosaic Idealize.ShloMosaic.TcCoe Idealize.SL.Sem

/-- The reference's lines composed, of its three arguments. -/
def refVal (a0 : FVec Ideal S4096x512 .f32) (a1 : FVec Ideal S4096x1000 .f32) (a2 : FVec Ideal S1000x512 .f32) : FVec Ideal S_ .f32 :=
  Host.divf (Host.divf (Host.divf (Host.reduceAdd (mulf a1 (subf (addf (broadcastInDim S4096x1000 ![0, 1] bcast_S4096x1_S4096x1000_0_1 (broadcastInDim S4096x1 ![0] bcast_S4096_S4096x1_0 (Host.reduceAdd (mulf a0 a0) (constant S_ .f32 0x00000000#32) reducesTo_S4096x512_S4096_d1 h_S_))) (broadcastInDim S4096x1000 ![0, 1] bcast_S1x1000_S4096x1000_0_1 (broadcastInDim S1x1000 ![1] bcast_S1000_S1x1000_1 (Host.reduceAdd (mulf a2 a2) (constant S_ .f32 0x00000000#32) reducesTo_S1000x512_S1000_d1 h_S_)))) (mulf (broadcastInDim S4096x1000 ![] bcast_S_S4096x1000 (constant S_ .f32 0x40000000#32)) (Host.dotGeneral dot_S4096x512_S512x1000_S4096x1000_1_0_0_1_n_n none a0 (transpose S512x1000 [1, 0] a2 transposes_S1000x512_S512x1000_1_0))))) (constant S_ .f32 0x00000000#32) reducesTo_S4096x1000_S_d0_1 h_S_) (constant S_ .f32 0x40000000#32)) (constant S_ .f32 0x45800000#32)) (constant S_ .f32 0x447A0000#32)

/-- The reference at its one index, in sums. -/
theorem refVal_apply (a0 : FVec Ideal S4096x512 .f32) (a1 : FVec Ideal S4096x1000 .f32) (a2 : FVec Ideal S1000x512 .f32) (i : S_.Idx) :
    refVal a0 a1 a2 i = Ideal.div (Ideal.div (Ideal.div
      (∑ r : Fin 4096, ∑ j : Fin 1000, a1 (ix2 r j) * ((∑ d : Fin 512, a0 (ix2 r d) * a0 (ix2 r d)) + (∑ d : Fin 512, a2 (ix2 j d) * a2 (ix2 j d))
        - ((2 : ℝ) : EReal) * ∑ d : Fin 512, a0 (ix2 r d) * a2 (ix2 j d))) ((2 : ℝ) : EReal)) ((4096 : ℝ) : EReal)) ((1000 : ℝ) : EReal) := by
  pointwise [refVal]
  rw [Cert.Consts.two_bits, Cert.Consts.rows_bits, Cert.Consts.classes_bits]

/-- From any initial memory the ideal reference ends with its result holding `refVal` of its arguments, its arguments
unchanged and every semaphore at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v18) = refVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨h, sem_eq_zero_of_no_sems (by decide) r.2⟩) (Value.run (F := Ideal) m ρ)

end Cert.ReferenceIdeal.Hand
-- ==== Proof.Equation.lean ====
/-
  The equation between the two losses: at real arguments the kernel's three sums over the accumulators are the reference's
  weighted sum of squared distances.
-/
module

public import proofs.«01_k».proof.Proof.KernelIdeal.Value
public import proofs.«01_k».proof.Proof.Reference

@[expose] public section

noncomputable section

namespace Cert.Equation

open Idealize.ShloMosaic Cert.KernelIdeal.Hand

/-- A sum of reals, read as an extended real, is the sum of the readings. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

variable (f : Fin 4096 → Fin 512 → ℝ) (l : Fin 4096 → Fin 1000 → ℝ) (c : Fin 1000 → Fin 512 → ℝ)

/-- The widened feature row over the reals. -/
def wideR (r : Fin 4096) (k : Fin 514) : ℝ :=
  if h : k.val < 512 then f r ⟨k.val, h⟩ else if k.val - 512 < 1 then ∑ d, f r d * f r d else 1

/-- A class's accumulator row over the reals. -/
def colR (j : Fin 1000) (k : Fin 514) : ℝ := ∑ r, l r j * wideR f r k

/-- The member of a row of the second half over the reals, 0 past the last class. -/
def upperR (g : Fin 1000 → ℝ) (j : Fin 512) : ℝ := if h : j.val < 488 then g (high j h) else 0

/-- One half's scalar over the reals. -/
def tailR (c2 : Fin 512 → ℝ) (C : Fin 512 → Fin 512 → ℝ) (A : Fin 512 → Fin 514 → ℝ) : ℝ :=
  ((∑ j, A j 512) + ∑ j, c2 j * A j 513) - 2 * ∑ j, ∑ d : Fin 512, C j d * A j ⟨d.val, by omega⟩

/-- The widened row of real features is real. -/
theorem wide_coe (r : Fin 4096) (k : Fin 514) : wide (fun r d => (f r d : EReal)) r k = (wideR f r k : EReal) := by
  unfold wide wideR
  split
  · rfl
  · split
    · simp only [coe_sum, EReal.coe_mul]
    · rfl

/-- A class's accumulator row of real arguments is real. -/
theorem col_coe (j : Fin 1000) (k : Fin 514) :
    col (fun r d => (f r d : EReal)) (fun r j => (l r j : EReal)) j k = (colR f l j k : EReal) := by
  simp only [col, colR, wide_coe, coe_sum, EReal.coe_mul]

/-- A family of reals stays real on the rows of the second half. -/
theorem upper_coe (g : Fin 1000 → ℝ) (j : Fin 512) : upper (fun i => (g i : EReal)) j = (upperR g j : EReal) := by
  unfold upper upperR
  split <;> rfl

/-- One half's scalar of real arguments is real. -/
theorem tailOf_coe (c2 : Fin 512 → ℝ) (C : Fin 512 → Fin 512 → ℝ) (A : Fin 512 → Fin 514 → ℝ) :
    tailOf (fun j => (c2 j : EReal)) (fun j d => (C j d : EReal)) (fun j k => (A j k : EReal)) = (tailR c2 C A : EReal) := by
  simp only [tailOf, tailR, coe_sum, EReal.coe_mul, EReal.coe_add, EReal.coe_sub]

/-- What one class adds to the sum, from its accumulator row. -/
def share (j : Fin 1000) : ℝ :=
  colR f l j 512 + (∑ d, c j d * c j d) * colR f l j 513 - 2 * ∑ d : Fin 512, c j d * colR f l j ⟨d.val, by omega⟩

/-- One half's scalar, row by row. -/
theorem tailR_eq (c2 : Fin 512 → ℝ) (C : Fin 512 → Fin 512 → ℝ) (A : Fin 512 → Fin 514 → ℝ) :
    tailR c2 C A = ∑ j, (A j 512 + c2 j * A j 513 - 2 * ∑ d : Fin 512, C j d * A j ⟨d.val, by omega⟩) := by
  rw [tailR, Finset.sum_sub_distrib, Finset.sum_add_distrib, Finset.mul_sum]

/-- The 1000 classes are the first 512 and the 488 of the second half. -/
theorem sum_classes (g : Fin 1000 → ℝ) : ∑ j, g j = (∑ j, g (low j)) + ∑ j, upperR g j := by
  have h2 : ∑ j : Fin 512, upperR g j = ∑ j : Fin 488, g (high ⟨j.val, by omega⟩ j.isLt) := by
    rw [show (∑ j : Fin 512, upperR g j) = ∑ j : Fin (488 + 24), upperR g j from rfl, Fin.sum_univ_add]
    have hz : ∑ j : Fin 24, upperR g (Fin.natAdd 488 j) = 0 := Finset.sum_eq_zero fun j _ => dif_neg (by simp)
    rw [hz, add_zero]
    exact Finset.sum_congr rfl fun j _ => dif_pos j.isLt
  rw [h2, show (∑ j, g j) = ∑ j : Fin (512 + 488), g j from rfl, Fin.sum_univ_add]
  rfl

/-- A class's share is the sum over the rows of its label times the squared distance. -/
theorem share_eq (j : Fin 1000) :
    share f l c j = ∑ r, l r j * ((∑ d, f r d * f r d) + (∑ d, c j d * c j d) - 2 * ∑ d, f r d * c j d) := by
  have h512 : ∀ r, wideR f r 512 = ∑ d, f r d * f r d := fun r => by simp [wideR]
  have h513 : ∀ r, wideR f r 513 = 1 := fun r => by simp [wideR]
  have hd : ∀ r (d : Fin 512), wideR f r ⟨d.val, by omega⟩ = f r d := fun r d => by simp [wideR]
  have hx : ∑ d : Fin 512, c j d * colR f l j ⟨d.val, by omega⟩ = ∑ r, l r j * ∑ d, f r d * c j d := by
    simp only [colR, hd, Finset.mul_sum]
    rw [Finset.sum_comm]
    exact Finset.sum_congr rfl fun r _ => Finset.sum_congr rfl fun d _ => by ring
  rw [share, hx]
  simp only [colR, h512, h513, mul_one]
  rw [Finset.mul_sum, Finset.mul_sum, ← Finset.sum_add_distrib, ← Finset.sum_sub_distrib]
  exact Finset.sum_congr rfl fun r _ => by ring

/-- The kernel's scalar at real arguments: the shares of all classes, scaled. -/
theorem lossOf_coe : lossOf (fun r d => (f r d : EReal)) (fun r j => (l r j : EReal)) (fun j d => (c j d : EReal))
    = (((∑ j, share f l c j) * (1 / 8192000) : ℝ) : EReal) := by
  have hu : ∀ j, upperR (share f l c) j = upperR (colR f l · 512) j
      + (∑ d, upperR (c · d) j * upperR (c · d) j) * upperR (colR f l · 513) j
      - 2 * ∑ d : Fin 512, upperR (c · d) j * upperR (colR f l · ⟨d.val, by omega⟩) j := fun j => by
    unfold upperR
    split
    · rfl
    · simp
  rw [sum_classes]
  simp only [hu, share]
  rw [← tailR_eq (fun j => ∑ d, c (low j) d * c (low j) d) (fun j => c (low j)) fun j => colR f l (low j),
    ← tailR_eq (fun j => ∑ d, upperR (c · d) j * upperR (c · d) j) (fun j d => upperR (c · d) j) fun j k => upperR (colR f l · k) j]
  rw [EReal.coe_mul, EReal.coe_add, ← tailOf_coe, ← tailOf_coe, lossOf]
  simp only [coe_sum, EReal.coe_mul, ← col_coe, ← upper_coe]

/-- The reference's scalar, in sums. -/
def distOf (F : Fin 4096 → Fin 512 → EReal) (L : Fin 4096 → Fin 1000 → EReal) (C : Fin 1000 → Fin 512 → EReal) : EReal :=
  Ideal.div (Ideal.div (Ideal.div (∑ r, ∑ j, L r j * ((∑ d, F r d * F r d) + (∑ d, C j d * C j d) - ((2 : ℝ) : EReal) * ∑ d, F r d * C j d))
    ((2 : ℝ) : EReal)) ((4096 : ℝ) : EReal)) ((1000 : ℝ) : EReal)

/-- At real arguments the reference's scalar is the kernel's. -/
theorem distOf_coe : distOf (fun r d => (f r d : EReal)) (fun r j => (l r j : EReal)) (fun j d => (c j d : EReal))
    = lossOf (fun r d => (f r d : EReal)) (fun r j => (l r j : EReal)) (fun j d => (c j d : EReal)) := by
  rw [lossOf_coe, distOf, Ideal.div_coe (by norm_num), Ideal.div_coe (by norm_num), Ideal.div_coe (by norm_num)]
  simp only [← EReal.coe_mul, ← coe_sum, ← EReal.coe_add, ← EReal.coe_sub]
  rw [Finset.sum_comm]
  simp only [share_eq]
  congr 1
  ring

/-- The two losses agree wherever every element of the three arguments is a real number. -/
theorem dist_eq_loss (F : Fin 4096 → Fin 512 → EReal) (L : Fin 4096 → Fin 1000 → EReal) (C : Fin 1000 → Fin 512 → EReal)
    (hF : ∀ r d, (((F r d).toReal : ℝ) : EReal) = F r d) (hL : ∀ r j, (((L r j).toReal : ℝ) : EReal) = L r j)
    (hC : ∀ j d, (((C j d).toReal : ℝ) : EReal) = C j d) : distOf F L C = lossOf F L C := by
  have h := distOf_coe (fun r d => (F r d).toReal) (fun r j => (L r j).toReal) (fun j d => (C j d).toReal)
  simpa only [hF, hL, hC] using h

end Cert.Equation
-- ==== Proof.lean ====
/-
  The certificate: the frames of the kernel, of its ideal reading and of the ideal reference; the named scale; and the equality
  of the two losses over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_all_finite
public import proofs.«01_k».proof.Proof.Kernel.Frame
public import proofs.«01_k».proof.Proof.KernelIdeal.Run
public import proofs.«01_k».proof.Proof.Finite
public import proofs.«01_k».proof.Proof.Equation

@[expose] public section

noncomputable section

namespace Cert.Proof

open Idealize.ShloMosaic Idealize.ShloMosaic.TcCoe Idealize.SL.Sem

/-- The ideal kernel's frame, from any initial memory. -/
theorem kernelIdeal_frame : Cert.quiescent_KernelIdeal := fun m g _ =>
  (θ_run Cert.KernelIdeal.defs _ _).mono (fun _ h => ⟨fun c => (h.1 c).2, h.2⟩) (Cert.KernelIdeal.Hand.run_main m g)

/-- The ideal reference's frame, from any initial memory. -/
theorem referenceIdeal_frame : Cert.quiescent_ReferenceIdeal := fun m g _ =>
  (θ_run Cert.ReferenceIdeal.defs _ _).mono (fun _ h => ⟨fun c => (h.1 c).2, h.2⟩) (Cert.ReferenceIdeal.Hand.run_main m g)

/-- On arguments without infinities the reference's scalar is the kernel's. -/
theorem value_eq (m : (ℓ : Loc Cert.KernelIdeal.nD Cert.KernelIdeal.τ Cert.KernelIdeal.sig) → Buf (Elt Ideal) ℓ)
    (hp : Cert.Pre_KernelIdeal_all_finite m) (c : Dev Cert.KernelIdeal.nD) :
    Cert.ReferenceIdeal.Hand.refVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = fun _ => Cert.KernelIdeal.Hand.loss m c := by
  obtain ⟨h0, h1, h2⟩ := Cert.Pre_all_finite.Hand.all_real (hp c)
  funext i
  rw [Cert.ReferenceIdeal.Hand.refVal_apply, Cert.KernelIdeal.Hand.loss_eq]
  exact Cert.Equation.dist_eq_loss (Cert.KernelIdeal.Hand.feat m c) (Cert.KernelIdeal.Hand.lab m c) (Cert.KernelIdeal.Hand.cen m c)
    (fun _ _ => h0 _) (fun _ _ => h1 _) (fun _ _ => h2 _)

/-- The ideal kernel and the ideal reference end with equal results on arguments without infinities. -/
theorem equal_results : Cert.algebraic_KernelIdeal_ReferenceIdeal_pre_all_finite := fun m g m' g' hp ha =>
  ⟨fun c _ => Cert.KernelIdeal.Hand.loss m c,
    (θ_run Cert.KernelIdeal.defs _ _).mono (fun _ h => h.1) (Cert.KernelIdeal.Hand.run_main m g),
    (θ_run Cert.ReferenceIdeal.defs _ _).mono (fun _ h c => ⟨(h.1 c).1.trans (by
      rw [(ha c).1, (ha c).2.1, (ha c).2.2]
      exact value_eq m hp c), (h.1 c).2⟩) (Cert.ReferenceIdeal.Hand.run_main m' g')⟩

theorem claim : Cert.Claim := ⟨Cert.Kernel.Gen.facts, Cert.KernelIdeal.Gen.facts, Cert.ReferenceIdeal.Gen.facts, Cert.Pre_all_finite.Gen.facts,
  fun m g _ => Cert.Kernel.Hand.run_main m g,
  kernelIdeal_frame,
  fun m g _ => kernelIdeal_frame m g trivial,
  referenceIdeal_frame,
  fun m g _ => referenceIdeal_frame m g trivial,
  IdealRules.named_const.statement _ _ _ _ _ rfl,
  equal_results⟩

end Cert.Proof

end
